-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S8192x2048 : Shape := ⟨2, ![8192, 2048]⟩
abbrev S1x4096x2048 : Shape := ⟨3, ![1, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8192x2048, .f32⟩
  | .hbm, ⟨2, _⟩ => ⟨S1x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

abbrev grid0 : Pipeline.Grid := .none
-- ==== ReferenceIdeal.lean ====
abbrev S4x4096x2048 : Shape := ⟨3, ![4, 4096, 2048]⟩
abbrev S8192x2048 : Shape := ⟨2, ![8192, 2048]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x2048 : Shape := ⟨3, ![1, 8192, 2048]⟩
abbrev S1x4096x2048 : Shape := ⟨3, ![1, 4096, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8192x2048, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x2048, .f32⟩
  | .hbm, ⟨22, _⟩ => ⟨S8192x2048, .i1⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S1x8192x2048, .f32⟩
  | .hbm, ⟨27, _⟩ => ⟨S1x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Copy.Body.lean ====
/-
  WHAT THE KERNEL'S BODY DOES: it starts one asynchronous copy from the first 4096 rows of the embedding table to the
  result's one slab, and waits for it. Run from the table and the result held whole and the copy's semaphore at zero, it
  gives back the table as it was, the result with the copy landed in it, and the semaphore at zero again.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

noncomputable section

namespace Cert.Copy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the run: the pipeline's own beside the transfers' counters. -/
local notation "𝕄" => MT nD τ sig Unit (Elt F) ℕ (Pipeline.UD sig nD τ) ℕ

/-- The embedding table, whole, where the kernel finds it. -/
abbrev table : Memref sig .tc .hbm S8192x2048 .f32 := Memref.whole main_arg1

/-- The result, whole, where the kernel leaves it. -/
abbrev result : Memref sig .tc .hbm S1x4096x2048 .f32 := Memref.whole main_v0

/-- The part of the table the copy reads: its rows `0, …, 4095`. -/
abbrev rows : Memref sig .tc .hbm S4096x2048 .f32 :=
  table.slice (Rect.unit (s := S8192x2048) ![0, 0] S4096x2048.size inb_S8192x2048_S4096x2048_0_0) (fun _ => rfl)

/-- The part of the result the copy writes: its one slab, which is all of it, as an array of rows. -/
abbrev slab : Memref sig .tc .hbm S4096x2048 .f32 :=
  (result.slice (Rect.unit (s := S1x4096x2048) ![0, 0, 0] S1x4096x2048.size inb_S1x4096x2048_S1x4096x2048_0_0_0)
    (fun _ => rfl)).squeeze S4096x2048 squeezes_S1x4096x2048_S4096x2048

/-- What the result holds once the copy has landed: `old` with its slab overwritten by the rows of the table `emb`. -/
def landed (c : Dev nD) (emb : Buf (Elt F) (table.view.loc (c : Thread nD τ))) (old : Buf (Elt F) (result.view.loc (c : Thread nD τ))) :
    Buf (Elt F) (result.view.loc (c : Thread nD τ)) :=
  slab.view.write (Elt F) old (ReadAs.same.apply (rows.view.read (Elt F) emb)) Finset.univ

/-- THE BODY: from the table at `emb`, the result at `old` and the copy's semaphore at zero, it ends with the table as it
    was, the result at `landed c emb old` and the semaphore at zero. -/
theorem body_run (c : Dev nD) (emb : Buf (Elt F) (table.view.loc (c : Thread nD τ)))
    (old : Buf (Elt F) (result.view.loc (c : Thread nD τ))) (W : Waits sig Unit) (K : PUnit → sProp 𝕄) :
    iprop((table.view.loc (c : Thread nD τ) ↦{fullShare} emb) ∗ (result.view.loc (c : Thread nD τ) ↦{fullShare} old)
        ∗ semVal ((c : Thread nD τ), SemLoc.dma cc0_scratch0.sem) 0 ∗ owes (c : Thread nD τ) 0 W
        ∗ (iprop((table.view.loc (c : Thread nD τ) ↦{fullShare} emb)
            ∗ (result.view.loc (c : Thread nD τ) ↦{fullShare} landed c emb old)
            ∗ semVal ((c : Thread nD τ), SemLoc.dma cc0_scratch0.sem) 0 ∗ (∃ W', owes (c : Thread nD τ) 0 W')) -∗ K ⟨⟩))
      ⊢ wp frame (wpE (defs₀ (F := F)) Variants.none c none) Set.univ
          (cc0__copy_body table (Memref.isWhole_whole _) result (Memref.isWhole_whole _) cc0_scratch0) K := by
  rw [cc0__copy_body_eq_skeleton]
  unfold cc0__copy_body_skel
  iintro ⟨Ht, Hr, Hs, HW, Hk⟩
  sl_exec
  sl_step
  iapply Hk
  isplitl [Ht]; · iexact Ht
  isplitl [Hr]; · iexact Hr
  isplitl [Hs]; · iexact Hs
  iexists _; iexact HW

end Cert.Copy

end
-- ==== Proof.Copy.Run.lean ====
/-
  THE KERNEL'S RUN. The launch has one grid point and stages no window: its body reads the embedding table and writes the
  result by a copy of its own (`Body.lean`). So the table passes through the launch unchanged, the result is entered as
  launched and left with the copy landed in it, the positions' array is not touched, and every semaphore ends at zero.
-/
module

public import proofs.«01_k».proof.Proof.Copy.Body

@[expose] public section

noncomputable section

namespace Cert.Copy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The resources of the run: the pipeline's own beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The launch's set-up -/

/-- What a core's buffers hold when the launch begins: what they held in the initial memory. -/
abbrev atStart (c : Dev nD) (b : Ref sig .tc) : Buf (Elt F) ((c : Thread nD τ).loc b) := m ((c : Thread nD τ).loc b)

/-- What they hold when it ends: the result with the copy of the table's rows landed, every other buffer as at the start. -/
def atEnd (c : Dev nD) : (b : Ref sig .tc) → Buf (Elt F) ((c : Thread nD τ).loc b) :=
  Function.update (atStart m c) main_v0 (landed c (atStart m c main_arg1) (atStart m c main_v0))

/-- The one semaphore of the kernel's own: the copy's. -/
abbrev copySem : Fin 1 → SemLoc sig := fun _ => SemLoc.dma cc0_scratch0.sem

/-- It is scoped to the launch and is none of the pipeline's. -/
theorem copySem_facts : Pipeline.OwnSemFacts cfg0.spec copySem := by decide

/-- The buffer the kernel reads in place: the table. -/
def readBufs : Finset (Ref sig .tc) := {main_arg1}

/-- The buffer it writes in place: the result. -/
def writtenBufs : Finset (Ref sig .tc) := {main_v0}

theorem readBufs_sub : readBufs ⊆ Pipeline.restRefs sig cfg0.spec := by decide
theorem writtenBufs_sub : writtenBufs ⊆ Pipeline.restRefs sig cfg0.spec \ readBufs := by decide

/-- The whole program is this one launch. -/
theorem main_is_launch : Pipeline.HMain (Ix := Unit) (Name := ℕ) (U := Pipeline.UD sig nD τ) (Lvl := ℕ) cfgs 0 defs₀
    Variants.none m (main (F := F)) (atStart m) :=
  Pipeline.hmain_region cfgs 0 defs₀ Variants.none m main fun c => (main_chain c).trans rfl

/-! ## What is held around the body -/

/-- What the body is given, and gives back, with the buffers of the set written held at `G`. -/
abbrev held (G : (c : Dev nD) → (b : Ref sig .tc) → Buf (Elt F) ((c : Thread nD τ).loc b)) (c : Dev nD) : sProp 𝕄 :=
  Pipeline.ΦDRG copySem cfg0.spec readBufs writtenBufs (atStart m) G c

/-- It is: the random generator's register at some state, the copy's semaphore at zero, the table as launched, and the
    result at `G`. -/
theorem held_eq (G : (c : Dev nD) → (b : Ref sig .tc) → Buf (Elt F) ((c : Thread nD τ).loc b)) (c : Dev nD) :
    (held m G c : sProp 𝕄)
      = iprop(BI.emp ∗ (∃ r, prngReg c r) ∗ semVal ((c : Thread nD τ), SemLoc.dma cc0_scratch0.sem) 0
          ∗ (table.view.loc (c : Thread nD τ) ↦{fullShare} atStart m c main_arg1)
          ∗ (result.view.loc (c : Thread nD τ) ↦{fullShare} G c main_v0)) := by
  unfold held
  rw [Pipeline.ΦDRG_eq, scopedRest0_eq, Pipeline.ownSems0_eq_of_list c copySem [0] (by decide) (by decide)]
  unfold Pipeline.routed
  rw [BI.bigSep_eq_bigSepL_of_eq [main_arg1] (by decide) (by decide), BI.bigSep_eq_bigSepL_of_eq [main_v0] (by decide) (by decide)]
  rfl

/-- The launch's proof data on core `c`: no window; the result as launched before the one point and as it ends after it;
    nothing owed. -/
def dats (_ : Fin 1) (c : Dev nD) : Dat τ (Elt F) Unit ℕ (Pipeline.UD sig nD τ) ℕ cfg0 c where
  A w := w.elim0
  after w _ := w.elim0
  Φ i := held m (if i.val = 0 then atStart m else atEnd m) c
  q _ := fullShare
  owed _ := 0

/-! ## The run -/

/-- The body at the one point takes what is held before it to what is held after it. -/
theorem body_correct (c : Dev nD) (t : Fin cfg0.N) :
    iprop((dats m 0 c).Φ t.castSucc ∗ (dats m 0 c).owesAt () t.castSucc ∗ BI.emp)
      ⊢ wp frame (wpE (defs₀ (F := F)) Variants.none c none) Set.univ (bodyAt0 t)
          (fun _ => iprop((dats m 0 c).Φ t.succ ∗ (dats m 0 c).owesAt () t.succ ∗ BI.emp)) := by
  have ht : t.val = 0 := congrArg Fin.val (fin_N0 t)
  have h0 : (dats m 0 c).Φ t.castSucc = held m (atStart m) c := by
    show held m (if t.val = 0 then atStart m else atEnd m) c = _
    rw [if_pos ht]
  have h1 : (dats m 0 c).Φ t.succ = held m (atEnd m) c := rfl
  rw [h0, h1, held_eq, held_eq, show atEnd m c main_v0 = landed c (atStart m c main_arg1) (atStart m c main_v0) from Function.update_self ..]
  unfold bodyAt0 Dat.owesAt Pipeline.owesWithin
  rw [show (dats m 0 c).owed t.castSucc = 0 from rfl, show (dats m 0 c).owed t.succ = 0 from rfl]
  iintro ⟨⟨He, Hg, Hs, Ht, Hr⟩, ⟨%W, -, HW⟩, Hn⟩
  iapply (body_run c (atStart m c main_arg1) (atStart m c main_v0) W _)
  isplitl [Ht]; · iexact Ht
  isplitl [Hr]; · iexact Hr
  isplitl [Hs]; · iexact Hs
  isplitl [HW]; · iexact HW
  iintro ⟨Ht, Hr, Hs, ⟨%W', HW⟩⟩
  isplitl [He Hg Ht Hr Hs]
  · isplitl [He]; · iexact He
    isplitl [Hg]; · iexact Hg
    isplitl [Hs]; · iexact Hs
    isplitl [Ht]; · iexact Ht
    iexact Hr
  isplitl [HW]
  · iexists W'; isplitr
    · ipureintro; exact fun _ _ => Or.inl trivial
    iexact HW
  iexact Hn

/-- What the launch asks of the body at each point. -/
theorem body_obligation (c : Dev nD) : BodyObligation (dats (F := F) m 0 c) (defs₀ (F := F)) Variants.none () Set.univ := fun t => by
  rw [show defs₀ (F := F) .tc cfg0.body (cfg0.bodyArgs t (cfg0.slots t)) = bodyAt0 t by unfold defs₀; rw [Defs.onTc_tc]]
  exact triple_restated (body_correct m c t) rfl .rfl fun _ => .rfl

set_option backward.isDefEq.respectTransparency.types false in
/-- THE KERNEL'S RUN, at any floats and from any memory with zero counters: it ends with the result at the landed copy of
    the table's rows, both arguments as they were and every semaphore at zero. -/
theorem run : θ_run defs (onTc (τ := τ) (main (F := F))) ⟨m, fun _ => 0, ρ⟩ (fun r =>
    (∀ c : Dev nD,
      r.2.mem ((c.tc : Thread nD τ).loc main_v0)
          = landed c (m ((c.tc : Thread nD τ).loc main_arg1)) (m ((c.tc : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  Pipeline.θ_run_frame_dmaRG cfgs (dats m) (0 : Fin 1) launch0 copySem defs₀ Variants.none copySem_facts readBufs writtenBufs
    readBufs_sub writtenBufs_sub m ρ main
    (hbody := fun c => (body_obligation m c).loose) (hshare := fun _ w => w.elim0) (howed := fun _ _ => rfl)
    (V := atStart m) (hmain := main_is_launch m) (hA := fun _ w => w.elim0) (G := atEnd m)
    (hin := fun _ => .rfl) (hout := fun _ => .rfl) (Q' := _)
    (hQ' := fun r h => ⟨fun c =>
      ⟨(h.1.written c (b := main_v0) (by decide)).trans (Function.update_self ..),
       (h.1.toR c).2 main_arg0 (Finset.mem_sdiff.mpr ⟨Pipeline.mem_restRefs_of main_arg0 (by decide) (by decide), by decide⟩),
       (h.1.toR c).2 main_arg1 (Finset.mem_sdiff.mpr ⟨Pipeline.mem_restRefs_of main_arg1 (by decide) (by decide), by decide⟩)⟩, h.2⟩)

end Cert.Copy

end
-- ==== Proof.Value.Rows.lean ====
/-
  THE COMMON VALUE: the first 4096 rows of an embedding table of 8192 rows, as one slab. Its entry `(0, i, j)` is the
  table's entry `(i, j)`.
-/
module

public import Idealize.ShloMosaic.Lib.ValueIdxCore

@[expose] public section

noncomputable section

namespace Cert.FirstRows

open Idealize.ShloMosaic Idealize.ShloMosaic.ValueIdx

/-- The first 4096 rows of the table `emb`, as one slab. -/
def firstRows {α : Type} (emb : (⟨2, ![8192, 2048]⟩ : Shape).Idx → α) : (⟨3, ![1, 4096, 2048]⟩ : Shape).Idx → α :=
  fun y => emb (ix2 ⟨(y 1).val, Nat.lt_of_lt_of_le (y 1).isLt (by decide)⟩ ⟨(y 2).val, (y 2).isLt⟩)

/-- Its entry `(0, i, j)` is the table's entry `(i, j)`. -/
theorem firstRows_apply {α : Type} (emb : (⟨2, ![8192, 2048]⟩ : Shape).Idx → α) (i : Fin 4096) (j : Fin 2048) :
    firstRows emb (ix3 (0 : Fin 1) i j) = emb (ix2 ⟨i.val, Nat.lt_of_lt_of_le i.isLt (by decide)⟩ j) := rfl

/-- A slab whose entry `(0, i, j)` is the table's entry `(i, j)`, for every row `i` below 4096 and every column `j`, is
    the table's first rows. -/
theorem eq_firstRows {α : Type} (emb : (⟨2, ![8192, 2048]⟩ : Shape).Idx → α) (x : (⟨3, ![1, 4096, 2048]⟩ : Shape).Idx → α)
    (h : ∀ (i : Fin 4096) (j : Fin 2048),
      x (ix3 (0 : Fin 1) i j) = emb (ix2 ⟨i.val, Nat.lt_of_lt_of_le i.isLt (by decide)⟩ j)) : x = firstRows emb := by
  funext y
  have hy : y = ix3 (0 : Fin 1) (y 1) (y 2) :=
    (eq_ix3 y).trans (congrArg (fun a => ix3 a (y 1) (y 2)) (Subsingleton.elim (α := Fin 1) (y 0) 0))
  rw [hy]
  exact h _ _

end Cert.FirstRows

end
-- ==== Proof.Value.Kernel.lean ====
/-
  WHAT THE KERNEL LEAVES: the landed copy is the table's first rows, whatever the result held before. The copy covers the
  whole result, and the slab seen as an array of rows has at `(i, j)` the result's entry `(0, i, j)`.
-/
module

public import proofs.«01_k».proof.Proof.Copy.Body
public import proofs.«01_k».proof.Proof.Value.Rows
public import Idealize.ShloMosaic.Lib.ViewIndex

@[expose] public section

noncomputable section

namespace Cert.Copy

open Cert.KernelIdeal Cert.KernelIdeal.Gen Cert.FirstRows
open Idealize.ShloMosaic Idealize.ShloMosaic.TcCoe Idealize.ShloMosaic.ValueIdx

variable {F : FTy → Type} [FloatOps F]

/-- The rows the copy reads have at `(i, j)` the table's entry `(i, j)`. -/
theorem rows_entry (i : Fin 4096) (j : Fin 2048) :
    rows.view.emb (ix2 i j) = (ix2 ⟨i.val, Nat.lt_of_lt_of_le i.isLt (by decide)⟩ j : S8192x2048.Idx) := by
  funext a
  match a with
  | ⟨0, _⟩ => exact Fin.ext (show 0 + 1 * i.val = i.val by omega)
  | ⟨1, _⟩ => exact Fin.ext (show 0 + 1 * j.val = j.val by omega)

/-- The slab the copy writes has at `(i, j)` the result's entry `(0, i, j)`. -/
theorem slab_entry (i : Fin 4096) (j : Fin 2048) :
    slab.view.emb (ix2 i j) = (ix3 (0 : Fin 1) i j : S1x4096x2048.Idx) := by
  have h : Shape.reshapeEquiv squeezes_S1x4096x2048_S4096x2048.numel_eq (ix2 i j : S4096x2048.Idx)
      = (ix3 (0 : Fin 1) i j : S1x4096x2048.Idx) := by
    refine Shape.reshapeEquiv_eq_of_rowMajor _ ?_
    rw [Shape.rowMajor_val_three, Shape.rowMajor_val_two]
    show (0 * 4096 + i.val) * 2048 + j.val = i.val * 2048 + j.val
    omega
  show (Rect.unit (s := S1x4096x2048) ![0, 0, 0] S1x4096x2048.size inb_S1x4096x2048_S1x4096x2048_0_0_0).emb
      (Shape.reshapeEquiv squeezes_S1x4096x2048_S4096x2048.numel_eq (ix2 i j : S4096x2048.Idx)) = _
  rw [h]
  funext a
  match a with
  | ⟨0, _⟩ => rfl
  | ⟨1, _⟩ => exact Fin.ext (show 0 + 1 * i.val = i.val by omega)
  | ⟨2, _⟩ => exact Fin.ext (show 0 + 1 * j.val = j.val by omega)

/-- THE KERNEL'S RESULT: the landed copy is the first 4096 rows of the table. -/
theorem landed_eq (c : Dev nD) (emb : Buf (Elt F) (table.view.loc (c : Thread nD τ)))
    (old : Buf (Elt F) (result.view.loc (c : Thread nD τ))) : landed c emb old = firstRows emb := by
  refine eq_firstRows (α := Elt F .f32) emb (landed c emb old) fun i j => ?_
  have hw := View.write_emb_of_mem (v := slab.view) old (ReadAs.same.apply (rows.view.read (Elt F) emb))
    (Finset.mem_univ (ix2 i j : S4096x2048.Idx))
  have hr : rows.view.read (Elt F) emb (ix2 i j) = emb (rows.view.emb (ix2 i j)) := rfl
  rw [rows_entry] at hr
  rw [slab_entry] at hw
  exact hw.trans hr

end Cert.Copy

end
-- ==== Proof.Value.Reference.lean ====
/-
  WHAT THE REFERENCE COMPUTES: it takes the table's rows at the positions `0, …, 8191`, which are all in range, so what it
  takes is the table itself; adds a leading axis; and keeps the first 4096 rows.
-/
module

public import proofs.«01_k».proof.Proof.Gen.ReferenceIdeal.Run
public import proofs.«01_k».proof.Proof.Value.Rows
public import Idealize.ShloMosaic.Lib.Routing.Ops
public import Idealize.ShloMosaic.Lib.ReduceAll

@[expose] public section

noncomputable section

namespace Cert.TakeRows

open Cert.ReferenceIdeal Cert.ReferenceIdeal.Gen Cert.FirstRows
open Idealize.ShloMosaic Idealize.ShloMosaic.TcCoe Idealize.ShloMosaic.ValueIdx Idealize.SL.Sem
open Idealize.ShloMosaic.StableHlo.Predicate

variable {F : FTy → Type} [FloatOps F]

/-- The positions `0, …, 8191` with 8192 added to the negative ones, of which there are none. -/
def positions : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0)

/-- They as a column. -/
def column : IVec S8192x1 32 := broadcastInDim S8192x1 ![0] bcast_S8192_S8192x1_0 positions

/-- Which of them lie from 0 to 8191. -/
def inRange : IVec S8192x1 1 :=
  andi (cmpi .sge column (broadcastInDim S8192x1 ![] bcast_S_S8192x1 (constantI S_ 32 0#32)))
    (cmpi .sle column (broadcastInDim S8192x1 ![0, 1] bcast_S1x1_S8192x1_0_1
      (broadcastInDim S1x1 ![1] bcast_S1_S1x1_1 (constantI S1 32 8191#32))))

/-- The rows taken: the table's at each position in range, not-a-number at the others. -/
def taken (emb : Vec F S8192x2048 .f32) : Vec F S8192x2048 .f32 :=
  select (broadcastInDim S8192x2048 ![0] bcast_S8192_S8192x2048_0
      (Host.reduce IntOp.andi inRange (constantI S_ 1 1#1) reducesTo_S8192x1_S8192_d1 h_S_))
    (Host.gather gather_S8192x2048_S8192x1_S8192x2048_1_0_n_n_0_1_12048 emb column)
    (broadcastInDim S8192x2048 ![] bcast_S_S8192x2048 (constant S_ .f32 0x7FC00000#32))

/-- The reference's result: the rows taken, under a leading axis, the first 4096 of them kept. -/
def result (emb : Vec F S8192x2048 .f32) : Vec F S1x4096x2048 .f32 :=
  extractStridedSlice S1x4096x2048 ![0, 0, 0] (broadcastInDim S1x8192x2048 ![1, 2] bcast_S8192x2048_S1x8192x2048_1_2 (taken emb))
    slices_S1x8192x2048_S1x4096x2048_0_0_0

/-! ## The positions are the row numbers -/

/-- Position `p` is the word `p`. -/
theorem positions_apply (p : Fin 8192) : positions (ix1 p) = BitVec.ofNat 32 p.val := by
  have hp := p.isLt
  have hneg : ¬ IntOp.cmpi .slt (BitVec.ofNat 32 p.val) 0#32 = 1#1 := by
    rw [slt_iff_toNat (by simp only [BitVec.toNat_ofNat]; omega) (by decide)]
    exact Nat.not_lt_zero _
  show Scalar.select (IntOp.cmpi .slt (BitVec.ofNat 32 p.val) 0#32) (IntOp.addi (BitVec.ofNat 32 p.val) 8192#32)
    (BitVec.ofNat 32 p.val) = _
  rw [eq_zero_of_ne_one hneg, select_zero]

/-- So is the column's entry `p`. -/
theorem column_apply (p : Fin 8192) : column (ix2 p (0 : Fin 1)) = BitVec.ofNat 32 p.val :=
  (Routing.bcCol bcast_S8192_S8192x1_0 positions p).trans (positions_apply p)

/-- Position `p` is in range. -/
theorem inRange_at (p : Fin 8192) : inRange (ix2 p (0 : Fin 1)) = 1#1 := by
  have hp := p.isLt
  show IntOp.andi (IntOp.cmpi .sge (column (ix2 p (0 : Fin 1))) 0#32) (IntOp.cmpi .sle (column (ix2 p (0 : Fin 1))) 8191#32) = 1#1
  rw [column_apply, (sge_iff_toNat (by simp only [BitVec.toNat_ofNat]; omega) (by decide)).2 (Nat.zero_le _),
    (sle_iff_toNat (by simp only [BitVec.toNat_ofNat]; omega) (by decide)).2
      (by simp only [BitVec.toNat_ofNat]; omega)]
  rfl

/-- So is every one. -/
theorem inRange_apply (i : S8192x1.Idx) : inRange i = 1#1 := by
  have hi : i = ix2 (i 0) (0 : Fin 1) :=
    (eq_ix2 i).trans (congrArg (fun a => ix2 (i 0) a) (Subsingleton.elim (α := Fin 1) (i 1) 0))
  exact (congrArg inRange hi).trans (inRange_at (i 0))

/-! ## What is taken is the table -/

/-- Row `p` of what is taken is row `p` of the table. -/
theorem taken_apply (emb : Vec F S8192x2048 .f32) (p : Fin 8192) (j : Fin 2048) : taken emb (ix2 p j) = emb (ix2 p j) := by
  have hmask : broadcastInDim S8192x2048 ![0] bcast_S8192_S8192x2048_0
      (Host.reduce IntOp.andi inRange (constantI S_ 1 1#1) reducesTo_S8192x1_S8192_d1 h_S_) (ix2 p j) = 1#1 := by
    refine (broadcastInDim_apply _ bcast_S8192_S8192x2048_0 _ (ix2 p j) (ix1 p) fun a => ?_).trans
      (Host.reduce_andi_one inRange _ _ _ (ix1 p) rfl inRange_apply)
    match a with
    | ⟨0, _⟩ => rfl
  refine (select_apply _ _ _ _).trans ?_
  rw [hmask, select_one]
  exact Routing.gather_row _ rfl rfl rfl rfl rfl emb column p j p (column_apply p) (by decide)

/-- THE REFERENCE'S RESULT is the first 4096 rows of the table. -/
theorem result_eq (emb : Vec F S8192x2048 .f32) : result emb = firstRows emb := by
  refine eq_firstRows (α := Elt F .f32) emb (result emb) fun i j => ?_
  have hi : i.val < 8192 := Nat.lt_of_lt_of_le i.isLt (by decide)
  refine (extractStridedSlice_apply _ _ slices_S1x8192x2048_S1x4096x2048_0_0_0 _ (ix3 (0 : Fin 1) (⟨i.val, hi⟩ : Fin 8192) j) fun a => ?_).trans
    ((broadcastInDim_apply _ bcast_S8192x2048_S1x8192x2048_1_2 _ _ (ix2 (⟨i.val, hi⟩ : Fin 8192) j) fun a => ?_).trans
      (taken_apply emb ⟨i.val, hi⟩ j))
  · match a with
    | ⟨0, _⟩ => rfl
    | ⟨1, _⟩ => exact (Nat.zero_add i.val).symm
    | ⟨2, _⟩ => exact (Nat.zero_add j.val).symm
  · match a with
    | ⟨0, _⟩ => rfl
    | ⟨1, _⟩ => rfl

/-- THE REFERENCE'S RUN: it ends with its result at the table's first 4096 rows and both arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = firstRows (α := Elt F .f32) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq (m ((c.tc : Thread nD τ).loc main_arg1))), (h c).2⟩)
    (Cert.ReferenceIdeal.Value.run m ρ)

end Cert.TakeRows

end
-- ==== Proof.lean ====
/-
  THE CERTIFICATE of the copy of an embedding table's first rows. The kernel runs as `Proof/Copy/` says and leaves the
  table's first rows (`Proof/Value/Kernel.lean`); so does the reference (`Proof/Value/Reference.lean`). Nothing is
  computed on the way, so the kernel as printed and its idealization are one text, read at two instances.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Copy.Run
public import proofs.«01_k».proof.Proof.Value.Kernel
public import proofs.«01_k».proof.Proof.Value.Reference
public import Idealize.ShloMosaic.Adequacy
public import Idealize.ShloMosaic.Init

@[expose] public section

noncomputable section

namespace Cert.Proof

open Idealize.ShloMosaic Idealize.SL.Sem

/-- The kernel as printed runs at words, keeps its arguments and leaves every semaphore at zero. Its text is the
    idealization's, so it is the same run. -/
theorem frame_printed : Cert.quiescent_Kernel := fun m ρ _ =>
  (θ_run (Cert.Kernel.defs (F := Bits)) _ _).mono (fun _ h => ⟨fun c => (h.1 c).2, h.2⟩) (Cert.Copy.run (F := Bits) m ρ)

/-- So does its idealization at extended reals. -/
theorem frame_ideal : Cert.quiescent_KernelIdeal := fun m ρ _ =>
  (θ_run (Cert.KernelIdeal.defs (F := Ideal)) _ _).mono (fun _ h => ⟨fun c => (h.1 c).2, h.2⟩)
    (Cert.Copy.run (F := Ideal) m ρ)

/-- The reference runs and keeps its arguments; it has no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.TakeRows.run (F := Ideal) m ρ)

/-- THE EQUATION: on equal arguments, kernel and reference both end with the table's first 4096 rows. -/
theorem value : Cert.algebraic_KernelIdeal_ReferenceIdeal := fun m ρ m' ρ' _ hargs =>
  ⟨fun c => Cert.FirstRows.firstRows (α := Elt Ideal .f32)
      (m ((c.tc : Thread Cert.KernelIdeal.nD Cert.KernelIdeal.τ).loc Cert.KernelIdeal.main_arg1)),
    (θ_run (Cert.KernelIdeal.defs (F := Ideal)) _ _).mono
      (fun _ h c => ⟨(h.1 c).1.trans (Cert.Copy.landed_eq c _ _), (h.1 c).2⟩) (Cert.Copy.run (F := Ideal) m ρ),
    (θ_run (Cert.ReferenceIdeal.defs (F := Ideal)) _ _).mono
      (fun _ h c => ⟨(h c).1.trans (congrArg (Cert.FirstRows.firstRows (α := Elt Ideal .f32)) (hargs c).2), (h c).2⟩)
      (Cert.TakeRows.run (F := Ideal) m' ρ')⟩

/-- Every claim of the certificate. -/
theorem claim : Cert.Claim :=
  ⟨Cert.Kernel.Gen.facts, Cert.KernelIdeal.Gen.facts, Cert.ReferenceIdeal.Gen.facts,
    frame_printed, frame_ideal, frame_reference, trivial, value⟩

end Cert.Proof

end
